-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x224x224 : Shape := ⟨4, ![32, 64, 224, 224]⟩
abbrev S224x256 : Shape := ⟨2, ![224, 256]⟩
abbrev S458752x224 : Shape := ⟨2, ![458752, 224]⟩
abbrev S229376x112 : Shape := ⟨2, ![229376, 112]⟩
abbrev S14336x224 : Shape := ⟨2, ![14336, 224]⟩
abbrev S7168x112 : Shape := ⟨2, ![7168, 112]⟩
abbrev S14336x128 : Shape := ⟨2, ![14336, 128]⟩
abbrev S14336x256 : Shape := ⟨2, ![14336, 256]⟩
abbrev S7168x128 : Shape := ⟨2, ![7168, 128]⟩
abbrev S32x64x112x112 : Shape := ⟨4, ![32, 64, 112, 112]⟩

abbrev nBuf : Space → Nat
  | .hbm => 5
  | .vmem => 6
  | .smem => 0
  | _ => 0

abbrev bufTy : (tb : Table) → Fin (tcTables nBuf tb) → BufTy
  | .hbm, ⟨0, _⟩ => ⟨S32x64x224x224, .f32⟩
  | .hbm, ⟨1, _⟩ => ⟨S224x256, .bf16⟩
  | .hbm, ⟨2, _⟩ => ⟨S458752x224, .f32⟩
  | .hbm, ⟨3, _⟩ => ⟨S229376x112, .f32⟩
  | .hbm, ⟨4, _⟩ => ⟨S32x64x112x112, .f32⟩
  | .local _ .vmem, ⟨0, _⟩ => ⟨S14336x224, .f32⟩
  | .local _ .vmem, ⟨1, _⟩ => ⟨S14336x224, .f32⟩
  | .local _ .vmem, ⟨2, _⟩ => ⟨S224x256, .bf16⟩
  | .local _ .vmem, ⟨3, _⟩ => ⟨S7168x112, .f32⟩
  | .local _ .vmem, ⟨4, _⟩ => ⟨S7168x112, .f32⟩
  | .local _ .vmem, ⟨5, _⟩ => ⟨S14336x128, .f32⟩
  | _, _ => ⟨S32x64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S14336x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x64x224x224 : Shape := ⟨4, ![32, 64, 224, 224]⟩
abbrev S_ : Shape := ⟨0, ![]⟩
abbrev S32x64x112x112 : Shape := ⟨4, ![32, 64, 112, 112]⟩

abbrev nBuf : Space → Nat
  | .hbm => 4
  | .vmem => 0
  | .smem => 0
  | _ => 0

abbrev bufTy : (tb : Table) → Fin (tcTables nBuf tb) → BufTy
  | .hbm, ⟨0, _⟩ => ⟨S32x64x224x224, .f32⟩
  | .hbm, ⟨1, _⟩ => ⟨S_, .f32⟩
  | .hbm, ⟨2, _⟩ => ⟨S_, .f32⟩
  | .hbm, ⟨3, _⟩ => ⟨S32x64x112x112, .f32⟩
  | _, _ => ⟨S32x64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.SelectorWord.lean ====
/- What the constant matrix the kernel multiplies by should hold: 224 rows, 256 columns, every entry 0 or 1. Column `j < 112`
   picks row `2j`, column `128 + j` picks row `2j + 1`, and the columns left over pick nothing. -/
module

public import proofs.«01_k».proof.Proof.Gen.KernelIdeal
public import Idealize.ShloMosaic.Lib.Decide

@[expose] public section

noncomputable section

namespace Cert.Pool

open Idealize.ShloMosaic Cert.KernelIdeal

/-- Row `k` is the one that column `c` picks. -/
abbrev Picks (k c : Nat) : Prop := (c < 112 ∧ k = 2 * c) ∨ (128 ≤ c ∧ c < 240 ∧ k = 2 * (c - 128) + 1)

/-- The printed table is right on the eight rows from `8 b`: the bf16 word of 1 where the column picks the row, the word of 0
    elsewhere. -/
def EightRows (b : Nat) : Prop := ∀ k : Fin 8, ∀ c : Fin 256,
  lit0t ((8 * b + k.val) * 256 + c.val) = if Picks (8 * b + k.val) c.val then 0x3F80#16 else 0x0000#16

end Cert.Pool

end
-- ==== Proof.SelectorRows0.lean ====
/- The printed table, rows 0 to 55, evaluated eight rows at a time. -/
module

public import proofs.«01_k».proof.Proof.SelectorWord

@[expose] public section

set_option maxRecDepth 100000

noncomputable section

namespace Cert.Pool

open Idealize.ShloMosaic Cert.KernelIdeal

/-- Rows 0 to 7. -/
theorem rows_0 : EightRows 0 := by unfold EightRows; decide +kernel
/-- Rows 8 to 15. -/
theorem rows_1 : EightRows 1 := by unfold EightRows; decide +kernel
/-- Rows 16 to 23. -/
theorem rows_2 : EightRows 2 := by unfold EightRows; decide +kernel
/-- Rows 24 to 31. -/
theorem rows_3 : EightRows 3 := by unfold EightRows; decide +kernel
/-- Rows 32 to 39. -/
theorem rows_4 : EightRows 4 := by unfold EightRows; decide +kernel
/-- Rows 40 to 47. -/
theorem rows_5 : EightRows 5 := by unfold EightRows; decide +kernel
/-- Rows 48 to 55. -/
theorem rows_6 : EightRows 6 := by unfold EightRows; decide +kernel

end Cert.Pool

end
-- ==== Proof.SelectorRows1.lean ====
/- The printed table, rows 56 to 111, evaluated eight rows at a time. -/
module

public import proofs.«01_k».proof.Proof.SelectorWord

@[expose] public section

set_option maxRecDepth 100000

noncomputable section

namespace Cert.Pool

open Idealize.ShloMosaic Cert.KernelIdeal

/-- Rows 56 to 63. -/
theorem rows_7 : EightRows 7 := by unfold EightRows; decide +kernel
/-- Rows 64 to 71. -/
theorem rows_8 : EightRows 8 := by unfold EightRows; decide +kernel
/-- Rows 72 to 79. -/
theorem rows_9 : EightRows 9 := by unfold EightRows; decide +kernel
/-- Rows 80 to 87. -/
theorem rows_10 : EightRows 10 := by unfold EightRows; decide +kernel
/-- Rows 88 to 95. -/
theorem rows_11 : EightRows 11 := by unfold EightRows; decide +kernel
/-- Rows 96 to 103. -/
theorem rows_12 : EightRows 12 := by unfold EightRows; decide +kernel
/-- Rows 104 to 111. -/
theorem rows_13 : EightRows 13 := by unfold EightRows; decide +kernel

end Cert.Pool

end
-- ==== Proof.SelectorRows2.lean ====
/- The printed table, rows 112 to 167, evaluated eight rows at a time. -/
module

public import proofs.«01_k».proof.Proof.SelectorWord

@[expose] public section

set_option maxRecDepth 100000

noncomputable section

namespace Cert.Pool

open Idealize.ShloMosaic Cert.KernelIdeal

/-- Rows 112 to 119. -/
theorem rows_14 : EightRows 14 := by unfold EightRows; decide +kernel
/-- Rows 120 to 127. -/
theorem rows_15 : EightRows 15 := by unfold EightRows; decide +kernel
/-- Rows 128 to 135. -/
theorem rows_16 : EightRows 16 := by unfold EightRows; decide +kernel
/-- Rows 136 to 143. -/
theorem rows_17 : EightRows 17 := by unfold EightRows; decide +kernel
/-- Rows 144 to 151. -/
theorem rows_18 : EightRows 18 := by unfold EightRows; decide +kernel
/-- Rows 152 to 159. -/
theorem rows_19 : EightRows 19 := by unfold EightRows; decide +kernel
/-- Rows 160 to 167. -/
theorem rows_20 : EightRows 20 := by unfold EightRows; decide +kernel

end Cert.Pool

end
-- ==== Proof.SelectorRows3.lean ====
/- The printed table, rows 168 to 223, evaluated eight rows at a time. -/
module

public import proofs.«01_k».proof.Proof.SelectorWord

@[expose] public section

set_option maxRecDepth 100000

noncomputable section

namespace Cert.Pool

open Idealize.ShloMosaic Cert.KernelIdeal

/-- Rows 168 to 175. -/
theorem rows_21 : EightRows 21 := by unfold EightRows; decide +kernel
/-- Rows 176 to 183. -/
theorem rows_22 : EightRows 22 := by unfold EightRows; decide +kernel
/-- Rows 184 to 191. -/
theorem rows_23 : EightRows 23 := by unfold EightRows; decide +kernel
/-- Rows 192 to 199. -/
theorem rows_24 : EightRows 24 := by unfold EightRows; decide +kernel
/-- Rows 200 to 207. -/
theorem rows_25 : EightRows 25 := by unfold EightRows; decide +kernel
/-- Rows 208 to 215. -/
theorem rows_26 : EightRows 26 := by unfold EightRows; decide +kernel
/-- Rows 216 to 223. -/
theorem rows_27 : EightRows 27 := by unfold EightRows; decide +kernel

end Cert.Pool

end
-- ==== Proof.Selector.lean ====
/- The constant matrix at the extended reals: entry `(k, c)` is 1 where column `c` picks row `k` and 0 elsewhere, so that a
   row of numbers times a column that picks row `k` is the `k`-th number. -/
module

public import proofs.«01_k».proof.Proof.SelectorRows0
public import proofs.«01_k».proof.Proof.SelectorRows1
public import proofs.«01_k».proof.Proof.SelectorRows2
public import proofs.«01_k».proof.Proof.SelectorRows3
public import Idealize.ShloMosaic.PureOps.Ideal.Laws
public import Idealize.ShloMosaic.Lib.ValueIdxCore

@[expose] public section

noncomputable section

namespace Cert.Pool

open Idealize.ShloMosaic Idealize.ShloMosaic.ValueIdx Cert.KernelIdeal
open scoped BigOperators

/-- All 28 groups of eight rows. -/
theorem eight_rows : ∀ b : Fin 28, EightRows b.val
  | 0 => rows_0 | 1 => rows_1 | 2 => rows_2 | 3 => rows_3 | 4 => rows_4 | 5 => rows_5 | 6 => rows_6
  | 7 => rows_7 | 8 => rows_8 | 9 => rows_9 | 10 => rows_10 | 11 => rows_11 | 12 => rows_12 | 13 => rows_13
  | 14 => rows_14 | 15 => rows_15 | 16 => rows_16 | 17 => rows_17 | 18 => rows_18 | 19 => rows_19 | 20 => rows_20
  | 21 => rows_21 | 22 => rows_22 | 23 => rows_23 | 24 => rows_24 | 25 => rows_25 | 26 => rows_26 | 27 => rows_27
  | ⟨n + 28, h⟩ => absurd h (by omega)

/-- The table's word at row `k`, column `c`. -/
theorem table_word (k : Fin 224) (c : Fin 256) :
    lit0t (k.val * 256 + c.val) = if Picks k.val c.val then 0x3F80#16 else 0x0000#16 := by
  have h := eight_rows ⟨k.val / 8, by omega⟩ ⟨k.val % 8, by omega⟩ c
  rwa [show 8 * (k.val / 8) + k.val % 8 = k.val from Nat.div_add_mod _ _] at h

/-- The bf16 word `0x3F80` is the number 1. -/
theorem word_one : (FloatOps.ofBits .bf16 0x3F80#16 : Ideal .bf16) = (1 : EReal) := by
  show Ideal.ofBits .bf16 0x3F80#16 = _
  simp [Ideal.ofBits, Ideal.ieee]
  rw [← EReal.coe_mul]
  norm_num

/-- The bf16 word `0x0000` is the number 0. -/
theorem word_zero : (FloatOps.ofBits .bf16 0x0000#16 : Ideal .bf16) = (0 : EReal) := by
  show Ideal.ofBits .bf16 0x0000#16 = _
  simp [Ideal.ofBits, Ideal.ieee]

/-- The matrix the kernel multiplies by, as the printed program makes it. -/
def sel : S224x256.Idx → Ideal .bf16 := fun i => FloatOps.ofBits .bf16 (lit0 (S224x256.rowMajor i))

/-- Its entries. -/
theorem sel_apply (k : Fin 224) (c : Fin 256) : sel (ix2 k c) = if Picks k.val c.val then (1 : EReal) else 0 := by
  unfold sel
  have e : (S224x256.rowMajor (ix2 k c)).val = k.val * 256 + c.val := Shape.rowMajor_val_two _
  show FloatOps.ofBits .bf16 (lit0t (S224x256.rowMajor (ix2 k c)).val) = _
  rw [e, table_word]
  split
  · exact word_one
  · exact word_zero

/-- A row of extended reals times a column that picks row `k` is the `k`-th entry, infinite or not: every other product is
    with zero, and zero times anything is zero. -/
theorem sum_sel (v : Fin 224 → EReal) (c : Fin 256) (k : Fin 224) (hk : ∀ k' : Fin 224, Picks k'.val c.val ↔ k' = k) :
    ∑ k' : Fin 224, v k' * (sel (ix2 k' c) : EReal) = v k := by
  rw [Finset.sum_eq_single k]
  · rw [sel_apply, if_pos ((hk k).2 rfl), mul_one]
  · intro k' _ hne
    rw [sel_apply, if_neg fun h => hne ((hk k').1 h), mul_zero]
  · exact fun h => absurd (Finset.mem_univ _) h

end Cert.Pool

end
-- ==== Proof.Block.lean ====
/- One block of the kernel as mathematics: 14336 rows of 224 numbers in, 7168 rows of 112 numbers out. The products with the
   selector put the even-numbered and the odd-numbered entries of a row side by side; their maximum is taken, then the maximum
   of two neighbouring rows. -/
module

public import proofs.«01_k».proof.Proof.Selector
public import proofs.«01_k».proof.Proof.Gen.KernelIdeal.Skeleton
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.Pool

open Idealize.ShloMosaic Idealize.ShloMosaic.ValueIdx Cert.KernelIdeal Cert.KernelIdeal.Gen
open scoped BigOperators

/-- The product of a block with the selector, as the kernel computes it. -/
abbrev prod (x : Vec Ideal S14336x224 .f32) : FVec Ideal S14336x256 .f32 :=
  matmul (F := Ideal) dot_S14336x224_S224x256_S14336x256_1_0_0_1_n_n none
    (truncf (F := Ideal) .bf16 (shapeCast S14336x224 x shapeCasts_S14336x224_S14336x224) bitsLt_bf16_f32) sel
    (constant (F := Ideal) S14336x256 .f32 0x00000000#32)

/-- The f32 word `0x00000000` is the number 0. -/
theorem acc_zero : (FloatOps.ofBits .f32 0x00000000#32 : Ideal .f32) = (0 : EReal) := by
  show Ideal.ofBits .f32 0x00000000#32 = _
  simp [Ideal.ofBits, Ideal.ieee]

/-- A column of the product that picks entry `k` holds entry `k` of every row. -/
theorem prod_apply (x : Vec Ideal S14336x224 .f32) (r : Fin 14336) (c : Fin 256) (k : Fin 224)
    (hk : ∀ k' : Fin 224, Picks k'.val c.val ↔ k' = k) : prod x (ix2 r c) = x (ix2 r k) := by
  refine (Ideal.matmul_plain_apply (M := 14336) (K := 224) (N := 256) none
    (truncf (F := Ideal) .bf16 (shapeCast S14336x224 x shapeCasts_S14336x224_S14336x224) bitsLt_bf16_f32) sel
    (constant (F := Ideal) S14336x256 .f32 0x00000000#32) r c).trans ?_
  have ha : (constant (F := Ideal) S14336x256 .f32 0x00000000#32 (ix2 r c) : EReal) = 0 := acc_zero
  have hx : ∀ k' : Fin 224, (truncf (F := Ideal) .bf16 (shapeCast S14336x224 x shapeCasts_S14336x224_S14336x224) bitsLt_bf16_f32
      (ix2 r k') : EReal) = x (ix2 r k') := fun k' => by rw [shapeCast_self]; rfl
  refine (congrArg₂ (· + ·) ha (Finset.sum_congr rfl fun k' _ => congrArg (· * (sel (ix2 k' c) : EReal)) (hx k'))).trans ?_
  rw [zero_add]
  exact sum_sel (fun k' => x (ix2 r k')) c k hk

/-- What the kernel stores in its scratch buffer: at row `r`, column `j < 112`, the larger of the entries `2j` and `2j + 1` of
    row `r`. -/
theorem pairs_apply (x : Vec Ideal S14336x224 .f32) (r : Fin 14336) (j : Fin 128) (hj : j.val < 112) :
    k0_pay1 (F := Ideal) x sel (ix2 r j)
      = max (x (ix2 r ⟨2 * j.val, by omega⟩) : EReal) (x (ix2 r ⟨2 * j.val + 1, by omega⟩)) := by
  have e : k0_pay1 (F := Ideal) x sel
      = maximumf (extractStridedSlice S14336x128 ![0, 0] (prod x) slices_S14336x256_o0_0_S14336x128)
          (extractStridedSlice S14336x128 ![0, 128] (prod x) slices_S14336x256_o0_128_S14336x128) := shapeCast_self _ _
  rw [e]
  show max (_ : EReal) _ = _
  congr 1
  · refine (slice2_axis1_apply 0 (prod x) slices_S14336x256_o0_0_S14336x128 r j ⟨j.val, by omega⟩ (Nat.zero_add _).symm).trans ?_
    exact prod_apply x r _ _ fun k' => by
      rw [Fin.ext_iff]; show (j.val < 112 ∧ k'.val = 2 * j.val ∨ 128 ≤ j.val ∧ j.val < 240 ∧ k'.val = 2 * (j.val - 128) + 1) ↔ k'.val = 2 * j.val; omega
  · refine (slice2_axis1_apply 128 (prod x) slices_S14336x256_o0_128_S14336x128 r j ⟨128 + j.val, by omega⟩ rfl).trans ?_
    exact prod_apply x r _ _ fun k' => by
      rw [Fin.ext_iff]; show (128 + j.val < 112 ∧ k'.val = 2 * (128 + j.val) ∨ 128 ≤ 128 + j.val ∧ 128 + j.val < 240 ∧ k'.val = 2 * (128 + j.val - 128) + 1) ↔ k'.val = 2 * j.val + 1; omega

/-- The maximum of the four entries of the 2 × 2 square at rows `2r`, `2r + 1` and columns `2j`, `2j + 1` of a matrix. -/
def square {a b a' b' : Nat} (ha : 2 * a' = a) (hb : 2 * b' = b) (x : (⟨2, ![a, b]⟩ : Shape).Idx → EReal) (r : Fin a') (j : Fin b') : EReal :=
  max (max (x (ix2 ⟨2 * r.val, by omega⟩ ⟨2 * j.val, by omega⟩)) (x (ix2 ⟨2 * r.val, by omega⟩ ⟨2 * j.val + 1, by omega⟩)))
    (max (x (ix2 ⟨2 * r.val + 1, by omega⟩ ⟨2 * j.val, by omega⟩)) (x (ix2 ⟨2 * r.val + 1, by omega⟩ ⟨2 * j.val + 1, by omega⟩)))

/-- The rows of the scratch buffer the kernel reads from `o` on, every second one. -/
abbrev everySecond (o : Nat) (ho : o < 2) (w : S14336x128.Idx → EReal) : S7168x128.Idx → EReal :=
  fun i => w (ix2 ⟨2 * (i 0).val + o, by have h : (i 0).val < 7168 := (i 0).isLt; omega⟩ (i 1))

/-- What the kernel stores as its block of the result: at row `r`, column `j`, the maximum of the 2 × 2 square there. -/
theorem block_apply (x : Vec Ideal S14336x224 .f32) (r : Fin 7168) (j : Fin 112) :
    k0_pay2 (F := Ideal) (everySecond 0 (by omega) (k0_pay1 (F := Ideal) x sel)) (everySecond 1 (by omega) (k0_pay1 (F := Ideal) x sel)) (ix2 r j)
      = square (a := 14336) (b := 224) rfl rfl x r j := by
  refine (slice2_axis1_apply 0 (maximumf (F := Ideal) (φ := .f32) (everySecond 0 (by omega) (k0_pay1 (F := Ideal) x sel))
    (everySecond 1 (by omega) (k0_pay1 (F := Ideal) x sel))) slices_S7168x128_o0_0_S7168x112 r j ⟨j.val, by omega⟩ (Nat.zero_add _).symm).trans ?_
  show max (_ : EReal) _ = _
  unfold square
  congr 1
  · exact pairs_apply x _ ⟨j.val, by omega⟩ j.isLt
  · exact pairs_apply x _ ⟨j.val, by omega⟩ j.isLt

end Cert.Pool

end
-- ==== Proof.BlockRun.lean ====
/- What one grid point's run of the kernel leaves in the result's block, in terms of the block of the argument it was given. -/
module

public import proofs.«01_k».proof.Proof.Block
public import proofs.«01_k».proof.Proof.Gen.KernelIdeal.Frame
public import Idealize.ShloMosaic.Lib.WholeRead

@[expose] public section

noncomputable section

namespace Cert.Pool

open Idealize.ShloMosaic Idealize.ShloMosaic.ValueIdx Cert.KernelIdeal Cert.KernelIdeal.Gen

/-- A box that is a whole matrix places every index at itself. -/
theorem whole_idx {a b : Nat} (inb : ∀ i, ![0, 0] i + (⟨2, ![a, b]⟩ : Shape).size i ≤ (⟨2, ![a, b]⟩ : Shape).size i)
    (y : (⟨2, ![a, b]⟩ : Shape).Idx) :
    (Rect.unit (s := ⟨2, ![a, b]⟩) ![0, 0] (⟨2, ![a, b]⟩ : Shape).size inb).toLoadRect.idx y = y := by
  funext i
  apply Fin.ext
  match i with
  | ⟨0, _⟩ => show 0 + 1 * (y 0).val = (y 0).val; omega
  | ⟨1, _⟩ => show 0 + 1 * (y 1).val = (y 1).val; omega

/-- The zero offsets of a rank-two box, as a function. -/
theorem zeros2 : (![0, 0] : Fin 2 → Nat) = fun _ => 0 := by
  funext i; match i with | ⟨0, _⟩ => rfl | ⟨1, _⟩ => rfl

section
variable (c : Dev nD) (i : grid0.Coords) (arg1 : Memref sig .tc .vmem S14336x224 .f32) (harg1 : arg1.IsWhole)
  (arg2 : Memref sig .tc .vmem S224x256 .bf16) (harg2 : arg2.IsWhole) (arg3 : Memref sig .tc .vmem S7168x112 .f32) (harg3 : arg3.IsWhole)
  (arg4 : Memref sig .tc .vmem S14336x128 .f32) (harg4 : arg4.IsWhole) (x : Vec Ideal S14336x224 .f32) (s : Vec Ideal S224x256 .bf16)

/-- The scratch buffer's contents when the kernel reads it. -/
theorem scratch_eq : View.canon (kernelRun0_A.sl.HS0_1 (F := Ideal) c arg1 harg1 arg2 harg2 x s) = k0_pay1 (F := Ideal) x s := by
  unfold kernelRun0_A.sl.HS0_1
  refine (View.canon_unit_zero (S := S14336x128) zeros2 inb_S14336x128_S14336x128_0_0 _).trans ?_
  congr 1
  · funext y
    exact (harg1.readAt_unread x _ y).trans (congrArg x (whole_idx _ y))
  · funext y
    exact (harg2.readAt_unread s _ y).trans (congrArg s (whole_idx _ y))

/-- A load of every second row of the scratch buffer from row `o` on. -/
theorem load_eq (o : Nat) (ho : o < 2) (inb) :
    arg4.view.readCov (kernelRun0_A.sl.HS0_1 (F := Ideal) c arg1 harg1 arg2 harg2 x s) (⟨![o, 0], S7168x128.size, ![2, 1], inb⟩ : LoadRect S14336x128)
      = everySecond o ho (k0_pay1 (F := Ideal) x s) := by
  rw [View.readCov_eq_canon', scratch_eq]
  funext y
  refine congrArg (k0_pay1 (F := Ideal) x s) (funext fun a => Fin.ext ?_)
  match a with
  | ⟨0, _⟩ => show o + 2 * (y 0).val = 2 * (y 0).val + o; omega
  | ⟨1, _⟩ => show 0 + 1 * (y 1).val = (y 1).val; omega

/-- The block the run leaves: the maximum of the even and the odd rows of the scratch buffer, cut to 112 columns. -/
theorem out_eq : out0_A_2 (F := Ideal) c i arg1 harg1 arg2 harg2 arg3 harg3 arg4 harg4 x s
    = k0_pay2 (F := Ideal) (everySecond 0 (by omega) (k0_pay1 (F := Ideal) x s)) (everySecond 1 (by omega) (k0_pay1 (F := Ideal) x s)) := by
  unfold out0_A_2
  rw [View.read_writes_junk_eq_canon]
  unfold kernelRun0_A
  dsimp only
  refine (View.canon_unit_zero (S := S7168x112) zeros2 inb_S7168x112_S7168x112_0_0 _).trans ?_
  unfold kernelRun0_A.sl.v11 kernelRun0_A.sl.v12
  rw [load_eq, load_eq]

end

end Cert.Pool

end
-- ==== Proof.Rows.lean ====
/- The pipelined part of the kernel: from the argument laid out as 458752 rows of 224 numbers to the result laid out as 229376
   rows of 112. -/
module

public import proofs.«01_k».proof.Proof.BlockRun
public import Idealize.ShloMosaic.Lib.StableHlo.Run

@[expose] public section

noncomputable section

namespace Cert.Pool

open Idealize.ShloMosaic Idealize.ShloMosaic.ValueIdx Idealize.ShloMosaic.TcCoe Cert.KernelIdeal Cert.KernelIdeal.Gen
open Idealize.ShloMosaic.Pipeline (Dat)

variable (m : (ℓ : Loc nD τ sig) → Buf (Elt Ideal) ℓ)

/-- The argument as rows, as the host's reshape makes it. -/
abbrev rowsOf (c : Dev nD) : S458752x224.Idx → EReal :=
  shapeCast S458752x224 (m ((c : Thread nD τ).loc main_arg0) : S32x64x224x224.Idx → EReal) shapeCasts_S32x64x224x224_S458752x224

/-- The first window's array is the argument as rows. -/
theorem V_rows (c : Dev nD) : (V m c main_v0 : S458752x224.Idx → EReal) = rowsOf m c := by
  show StableHlo.after [_, _] _ (Proc.devRef .tc main_v0) = _
  after_results
  rfl

/-- The second window's array is the selector. -/
theorem V_sel (c : Dev nD) : (V m c main_cst : S224x256.Idx → Ideal .bf16) = sel := by
  unfold sel
  show StableHlo.after [_, _] _ (Proc.devRef .tc main_cst) = _
  after_results
  rfl

/-- At grid point `t` the first and the third window are on their `t`-th block of rows, the second window on its one block. -/
theorem windows_at : ∀ t : Fin cfg0.N,
    (win0_0.index t 0 * win0_0.size 0 = t.val * 14336 ∧ win0_0.index t 1 * win0_0.size 1 = 0)
    ∧ (win0_1.index t 0 * win0_1.size 0 = 0 ∧ win0_1.index t 1 * win0_1.size 1 = 0)
    ∧ (win0_2.index t 0 * win0_2.size 0 = t.val * 7168 ∧ win0_2.index t 1 * win0_2.size 1 = 0)
    ∧ (win0_2.xsize (grid0.coords t) 0 = 7168 ∧ win0_2.xsize (grid0.coords t) 1 = 112) := by
  decide +kernel

/-- The first window's block at point `t` is rows `14336 t` to `14336 t + 14335` of the argument. -/
theorem block_rows (c : Dev nD) (t : Fin cfg0.N) (y : S14336x224.Idx) (k : S458752x224.Idx)
    (h0 : (k 0).val = t.val * 14336 + (y 0).val) (h1 : (k 1).val = (y 1).val) :
    (iblk m c 0 t : S14336x224.Idx → EReal) y = rowsOf m c k := by
  rw [← V_rows]
  refine congrArg (V m c main_v0 : S458752x224.Idx → EReal) (funext fun a => Fin.ext ?_)
  have e := windows_at t
  match a with
  | ⟨0, _⟩ =>
    refine (Pipeline.Window.rect_emb_val win0_0 t y 0).trans ?_
    rw [e.1.1]; exact h0.symm
  | ⟨1, _⟩ =>
    refine (Pipeline.Window.rect_emb_val win0_0 t y 1).trans ?_
    rw [e.1.2, Nat.zero_add]; exact h1.symm

/-- The second window's block is the selector at every point. -/
theorem block_sel (c : Dev nD) (t : Fin cfg0.N) : (iblk m c 1 t : S224x256.Idx → Ideal .bf16) = sel := by
  rw [← V_sel m c]
  funext y
  refine congrArg (V m c main_cst : S224x256.Idx → Ideal .bf16) (funext fun a => Fin.ext ?_)
  have e := windows_at t
  match a with
  | ⟨0, _⟩ =>
    refine (Pipeline.Window.rect_emb_val win0_1 t y 0).trans ?_
    rw [e.2.1.1]; exact Nat.zero_add _
  | ⟨1, _⟩ =>
    refine (Pipeline.Window.rect_emb_val win0_1 t y 1).trans ?_
    rw [e.2.1.2]; exact Nat.zero_add _

/-- The result as rows: at row `r`, column `j`, the maximum of the 2 × 2 square of the argument's rows there. -/
def pooledRows (c : Dev nD) : S229376x112.Idx → EReal :=
  fun i => square (a := 458752) (b := 224) rfl rfl (rowsOf m c) (i 0) (i 1)

/-- The block a point leaves is its block of the result as rows. -/
theorem outs_eq (c : Dev nD) (t : Fin cfg0.N) (y : S7168x112.Idx) (k : S229376x112.Idx)
    (h0 : (k 0).val = t.val * 7168 + (y 0).val) (h1 : (k 1).val = (y 1).val) :
    (outsAt0 m c t : S7168x112.Idx → EReal) y = pooledRows m c k := by
  unfold outsAt0
  rw [block_sel, out_eq]
  refine (congrArg (k0_pay2 (F := Ideal) _ _) (eq_ix2 y)).trans ((block_apply (iblk m c 0 t) (y 0) (y 1)).trans ?_)
  unfold pooledRows square
  have hb : ∀ (a : Fin 14336) (b : Fin 224) (a' : Fin 458752) (b' : Fin 224), a'.val = t.val * 14336 + a.val → b'.val = b.val →
      (iblk m c 0 t : S14336x224.Idx → EReal) (ix2 a b) = rowsOf m c (ix2 a' b') := fun a b a' b' ha hb => block_rows m c t _ _ ha hb
  refine congrArg₂ max (congrArg₂ max (hb _ _ _ _ ?_ ?_) (hb _ _ _ _ ?_ ?_)) (congrArg₂ max (hb _ _ _ _ ?_ ?_) (hb _ _ _ _ ?_ ?_)) <;>
    dsimp only <;> omega

/-- What point `t` writes back is its block of the result as rows. -/
theorem flushed_eq (c : Dev nD) (t : Fin cfg0.N) :
    (dats m 0 c).flushed 2 t = ((cfg0.win 2).blk t).view.read (Elt Ideal) (pooledRows m c) := by
  show (cfg0.win 2).cut (grid0.coords t) ((dats m 0 c).after 2 t) = _
  rw [after0_2]
  funext y
  have e := windows_at t
  refine outs_eq m c t y ((win0_2.rect t).emb y) ?_ ?_
  · refine (Pipeline.Window.rect_emb_val win0_2 t y 0).trans ?_
    rw [e.2.2.1.1]
  · refine (Pipeline.Window.rect_emb_val win0_2 t y 1).trans ?_
    rw [e.2.2.1.2, Nat.zero_add]

/-- An index of the result as rows is in point `t`'s block when its row is one of the block's 7168 rows. -/
theorem mem_block (t : Fin cfg0.N) (i : S229376x112.Idx) (h : t.val * 7168 ≤ (i 0).val ∧ (i 0).val < t.val * 7168 + 7168) :
    i ∈ ((cfg0.win 2).blk t).view.set := by
  show i ∈ ((View.whole main_v1).slice (win0_2.rect t)).set
  rw [View.set_slice_whole, Rect.mem_set_unit]
  have e := windows_at t
  have h1 : (i 1).val < 112 := (i 1).isLt
  intro a
  match a with
  | ⟨0, _⟩ =>
    show win0_2.index t 0 * win0_2.size 0 ≤ (i 0).val ∧ (i 0).val < win0_2.index t 0 * win0_2.size 0 + win0_2.xsize (grid0.coords t) 0
    rw [e.2.2.1.1, e.2.2.2.1]; exact h
  | ⟨1, _⟩ =>
    show win0_2.index t 1 * win0_2.size 1 ≤ (i 1).val ∧ (i 1).val < win0_2.index t 1 * win0_2.size 1 + win0_2.xsize (grid0.coords t) 1
    rw [e.2.2.1.2, e.2.2.2.2]; omega

/-- The 32 blocks cover the result. -/
theorem blocks_cover (i : S229376x112.Idx) : ∃ t : Fin cfg0.N, (cfg0.win 2).flush t = true ∧ i ∈ ((cfg0.win 2).blk t).view.set := by
  have h0 : (i 0).val < 229376 := (i 0).isLt
  have hN : cfg0.N = 32 := N_0
  refine ⟨⟨(i 0).val / 7168, by omega⟩, flush0_2 _, mem_block _ i ?_⟩
  dsimp only
  omega

/-- After the pipeline the result's array holds the result as rows, whatever it held before. -/
theorem final_rows (c : Dev nD) : (dats m 0 c).arrAt 2 cfg0.N = pooledRows m c :=
  (dats m 0 c).arrAt_eq_of_cover 2 (pooledRows m c) (fun t _ => flushed_eq m c t) blocks_cover

end Cert.Pool

end
-- ==== Proof.KernelValue.lean ====
/- The kernel's run, read: its result, its argument unchanged. -/
module

public import proofs.«01_k».proof.Proof.Rows

@[expose] public section

noncomputable section

namespace Cert.Pool

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- The kernel's result: the result as rows, in the shape the last reshape gives it. -/
abbrev kernelValue (c : Dev nD) : S32x64x112x112.Idx → EReal :=
  shapeCast S32x64x112x112 (pooledRows m c) shapeCasts_S229376x112_S32x64x112x112

/-- After the last reshape the result buffer holds the kernel's result. -/
theorem tail_value (c : Dev nD) :
    (Pipeline.afterTail₀ cfgs (dats m) 0 (V0 m) [hostOps1] c main_v2 : S32x64x112x112.Idx → EReal) = kernelValue m c := by
  unfold Pipeline.afterTail₀
  have h := Pipeline.withArrays_arr (Val := Elt Ideal) spec0 winFacts0.arr_inj c (V0 m c) (fun w => (dats m 0 c).arrAt w cfg0.N) 2
  rw [final_rows] at h
  show StableHlo.after [_] _ (Proc.devRef .tc main_v2) = _
  after_results
  funext i
  exact congrArg (fun g : S229376x112.Idx → EReal => shapeCast S32x64x112x112 g shapeCasts_S229376x112_S32x64x112x112 i) h

/-- Every run of the kernel ends with the result buffer at the kernel's result and the argument unchanged. -/
theorem kernel_run : θ_run defs (onTc (τ := τ) (main (F := Ideal))) ⟨m, fun _ => 0, ρ⟩ fun r => ∀ c : Dev nD,
      r.2.mem ((c : Thread nD τ).loc main_v2) = kernelValue m c
      ∧ r.2.mem ((c : Thread nD τ).loc main_arg0) = m ((c : Thread nD τ).loc main_arg0) :=
  (θ_run defs _ _).mono (fun _ h c =>
    ⟨((h c).2 main_v2 (Pipeline.mem_restRefs_of main_v2 (by decide) (by decide))).trans (tail_value m c),
      ((h c).2 main_arg0 (Pipeline.mem_restRefs_of main_arg0 (by decide) (by decide))).trans (W_main_arg0 m (dats m) c)⟩)
    (run_main m ρ)

end Cert.Pool

end
-- ==== Proof.RefPool.lean ====
/- The reference: a window maximum over 2 × 2 windows with stride 2, starting from negative infinity, is at each place the
   maximum of the four entries of its window. -/
module

public import proofs.«01_k».proof.Proof.Gen.ReferenceIdeal.Run
public import Idealize.ShloMosaic.PureOps.Ideal.Laws
public import Idealize.ShloMosaic.Lib.ValueIdxCore

@[expose] public section

noncomputable section

namespace Cert.Pool

open Idealize.ShloMosaic Idealize.ShloMosaic.ValueIdx

/-- The value the program writes down as the start of the maximum is the least extended real. -/
theorem start_word : (FloatOps.ofBits .f32 0xFF800000#32 : Ideal .f32) = (⊥ : EReal) := by
  show Ideal.ofBits .f32 0xFF800000#32 = _
  simp [Ideal.ofBits, Ideal.ieee]

/-- The shape of one window. -/
abbrev Win : Shape := ⟨4, ![1, 1, 2, 2]⟩

/-- The places of a window in row-major order: the third coordinate is the quotient by 2, the fourth the remainder. -/
theorem win_place (n : Fin 4) : Win.rowMajor.symm (n.cast (by decide)) = ix4 (0 : Fin 1) (0 : Fin 1) (⟨n.val / 2, by omega⟩ : Fin 2) (⟨n.val % 2, by omega⟩ : Fin 2) := by
  rw [Equiv.symm_apply_eq]
  apply Fin.ext
  rw [Shape.rowMajor_val_four]
  show n.val = ((0 * 1 + 0) * 2 + n.val / 2) * 2 + n.val % 2
  omega

/-- A walk over the four places of a window. -/
theorem foldl_win {α : Type} (g : α → Fin Win.numel → α) (a : α) :
    (List.finRange Win.numel).foldl g a
      = g (g (g (g a ((0 : Fin 4).cast (by decide))) ((1 : Fin 4).cast (by decide))) ((2 : Fin 4).cast (by decide))) ((3 : Fin 4).cast (by decide)) := by
  have e : Win.numel = 4 := by decide
  have h : List.finRange Win.numel = (List.finRange 4).map (Fin.cast e.symm) := by
    apply List.ext_getElem <;> simp [e]
  rw [h, List.foldl_map]
  rfl

open Cert.ReferenceIdeal

/-- What the window maximum reads at place `q` of the window at `j`: the operand where the place is inside it, `v` elsewhere. -/
def placeVal (x : S32x64x224x224.Idx → EReal) (v : EReal) (j : S32x64x112x112.Idx) (q : Win.Idx) : EReal :=
  if hin : ∀ a : Fin 4, (![0, 0, 0, 0] : Fin 4 → Nat) a ≤ (j a).val * (![1, 1, 2, 2] : Fin 4 → Nat) a + (q a).val
      ∧ (j a).val * (![1, 1, 2, 2] : Fin 4 → Nat) a + (q a).val - (![0, 0, 0, 0] : Fin 4 → Nat) a < S32x64x224x224.size a
    then x (fun a => ⟨(j a).val * (![1, 1, 2, 2] : Fin 4 → Nat) a + (q a).val - (![0, 0, 0, 0] : Fin 4 → Nat) a, (hin a).2⟩)
    else v

/-- No place is outside the operand. -/
theorem placeVal_eq (x : S32x64x224x224.Idx → EReal) (v : EReal) (n : Fin 32) (c : Fin 64) (h : Fin 112) (w : Fin 112) (q : Fin 4)
    (k2 k3 : Fin 224) (e2 : k2.val = 2 * h.val + q.val / 2) (e3 : k3.val = 2 * w.val + q.val % 2) :
    placeVal x v (ix4 n c h w) (Win.rowMajor.symm (q.cast (by decide))) = x (ix4 n c k2 k3) := by
  rw [win_place q]
  unfold placeVal
  rw [dif_pos fun a => by
    match a with
    | ⟨0, _⟩ => show 0 ≤ n.val * 1 + 0 ∧ n.val * 1 + 0 - 0 < 32; omega
    | ⟨1, _⟩ => show 0 ≤ c.val * 1 + 0 ∧ c.val * 1 + 0 - 0 < 64; omega
    | ⟨2, _⟩ => show 0 ≤ h.val * 2 + q.val / 2 ∧ h.val * 2 + q.val / 2 - 0 < 224; omega
    | ⟨3, _⟩ => show 0 ≤ w.val * 2 + q.val % 2 ∧ w.val * 2 + q.val % 2 - 0 < 224; omega]
  refine congrArg x (funext fun a => Fin.ext ?_)
  match a with
  | ⟨0, _⟩ => show n.val * 1 + 0 - 0 = n.val; omega
  | ⟨1, _⟩ => show c.val * 1 + 0 - 0 = c.val; omega
  | ⟨2, _⟩ => show h.val * 2 + q.val / 2 - 0 = k2.val; omega
  | ⟨3, _⟩ => show w.val * 2 + q.val % 2 - 0 = k3.val; omega

/-- The window maximum as a walk over the places of the window. -/
theorem reduceWindow_eq_foldl (x : S32x64x224x224.Idx → EReal) (init : S_.Idx → EReal) (hw) (hu) (j : S32x64x112x112.Idx) :
    Host.reduceWindow (s := S32x64x224x224) (t := S32x64x112x112) (max : EReal → EReal → EReal) ![1, 1, 2, 2] ![1, 1, 2, 2] ![0, 0, 0, 0] ![0, 0, 0, 0] x init hw hu j
      = (List.finRange Win.numel).foldl (fun r q => max r (placeVal x (init (Shape.Idx.first hu)) j (Win.rowMajor.symm q))) (init (Shape.Idx.first hu)) := by
  unfold Host.reduceWindow
  refine congrArg (fun g : EReal → Fin Win.numel → EReal => List.foldl g (init (Shape.Idx.first hu)) (List.finRange Win.numel))
    (funext fun r => funext fun q => congrArg (max r) ?_)
  unfold placeVal
  split
  · next hin =>
    split
    · rfl
    · next hno => exact absurd hin hno
  · next hin =>
    split
    · next hyes => exact absurd hyes hin
    · rfl

/-- The window maximum over the argument at image `n`, channel `c`, row `h`, column `w`: the maximum of the four entries at rows
    `2h`, `2h + 1` and columns `2w`, `2w + 1`. -/
theorem window_apply (x : S32x64x224x224.Idx → EReal) (init : S_.Idx → EReal) (hi : ∀ i, init i = ⊥) (hw) (hu)
    (n : Fin 32) (c : Fin 64) (h : Fin 112) (w : Fin 112) :
    Host.reduceWindow (s := S32x64x224x224) (t := S32x64x112x112) (max : EReal → EReal → EReal) ![1, 1, 2, 2] ![1, 1, 2, 2] ![0, 0, 0, 0] ![0, 0, 0, 0] x init hw hu (ix4 n c h w)
      = max (max (x (ix4 n c ⟨2 * h.val, by omega⟩ ⟨2 * w.val, by omega⟩)) (x (ix4 n c ⟨2 * h.val, by omega⟩ ⟨2 * w.val + 1, by omega⟩)))
          (max (x (ix4 n c ⟨2 * h.val + 1, by omega⟩ ⟨2 * w.val, by omega⟩)) (x (ix4 n c ⟨2 * h.val + 1, by omega⟩ ⟨2 * w.val + 1, by omega⟩))) := by
  rw [reduceWindow_eq_foldl, hi, foldl_win]
  rw [placeVal_eq x ⊥ n c h w 0 ⟨2 * h.val, by omega⟩ ⟨2 * w.val, by omega⟩ rfl rfl,
    placeVal_eq x ⊥ n c h w 1 ⟨2 * h.val, by omega⟩ ⟨2 * w.val + 1, by omega⟩ rfl rfl,
    placeVal_eq x ⊥ n c h w 2 ⟨2 * h.val + 1, by omega⟩ ⟨2 * w.val, by omega⟩ rfl rfl,
    placeVal_eq x ⊥ n c h w 3 ⟨2 * h.val + 1, by omega⟩ ⟨2 * w.val + 1, by omega⟩ rfl rfl]
  rw [max_eq_right (bot_le : (⊥ : EReal) ≤ x (ix4 n c ⟨2 * h.val, by omega⟩ ⟨2 * w.val, by omega⟩))]
  exact max_assoc _ _ _

end Cert.Pool

end
-- ==== Proof.Agree.lean ====
/- The kernel's result is the reference's: the rows of the argument and of the result, read at image, channel, row and column. -/
module

public import proofs.«01_k».proof.Proof.KernelValue
public import proofs.«01_k».proof.Proof.RefPool

@[expose] public section

noncomputable section

namespace Cert.Pool

open Idealize.ShloMosaic Idealize.ShloMosaic.ValueIdx Idealize.ShloMosaic.TcCoe Cert.KernelIdeal Cert.KernelIdeal.Gen

variable (m : (ℓ : Loc nD τ sig) → Buf (Elt Ideal) ℓ)

/-- Row `(64 n + c) 224 + h` of the argument as rows is row `h` of image `n`, channel `c`. -/
theorem rowsOf_apply (d : Dev nD) (n : Fin 32) (c : Fin 64) (h w : Fin 224) (r : Fin 458752) (w' : Fin 224)
    (hr : r.val = (n.val * 64 + c.val) * 224 + h.val) (hw : w'.val = w.val) :
    rowsOf m d (ix2 r w') = (m ((d : Thread nD τ).loc main_arg0) : S32x64x224x224.Idx → EReal) (ix4 n c h w) := by
  refine shapeCast_apply (s := S32x64x224x224) (t := S458752x224) _ _ _ (ix4 n c h w) ?_
  rw [Shape.rowMajor_val_four, Shape.rowMajor_val_two]
  show ((n.val * 64 + c.val) * 224 + h.val) * 224 + w.val = r.val * 224 + w'.val
  rw [hr, hw]

/-- The kernel's result at image `n`, channel `c`, row `h`, column `w`: the maximum of the four entries of the argument at rows
    `2h`, `2h + 1` and columns `2w`, `2w + 1`. -/
theorem kernelValue_apply (d : Dev nD) (n : Fin 32) (c : Fin 64) (h : Fin 112) (w : Fin 112) (x : S32x64x224x224.Idx → EReal)
    (hx : x = m ((d : Thread nD τ).loc main_arg0)) :
    kernelValue m d (ix4 n c h w)
      = max (max (x (ix4 n c ⟨2 * h.val, by omega⟩ ⟨2 * w.val, by omega⟩)) (x (ix4 n c ⟨2 * h.val, by omega⟩ ⟨2 * w.val + 1, by omega⟩)))
          (max (x (ix4 n c ⟨2 * h.val + 1, by omega⟩ ⟨2 * w.val, by omega⟩)) (x (ix4 n c ⟨2 * h.val + 1, by omega⟩ ⟨2 * w.val + 1, by omega⟩))) := by
  subst hx
  refine (shapeCast_apply _ _ _ (ix2 (⟨(n.val * 64 + c.val) * 112 + h.val, by omega⟩ : Fin 229376) w) ?_).trans ?_
  · rw [Shape.rowMajor_val_four, Shape.rowMajor_val_two]
    rfl
  unfold pooledRows square
  refine congrArg₂ max (congrArg₂ max (rowsOf_apply m d _ _ _ _ _ _ ?_ ?_) (rowsOf_apply m d _ _ _ _ _ _ ?_ ?_))
    (congrArg₂ max (rowsOf_apply m d _ _ _ _ _ _ ?_ ?_) (rowsOf_apply m d _ _ _ _ _ _ ?_ ?_)) <;>
    dsimp only <;> omega

/-- The reference's result, as its program computes it from an argument. -/
abbrev refValue (x : Cert.ReferenceIdeal.S32x64x224x224.Idx → EReal) : Cert.ReferenceIdeal.S32x64x112x112.Idx → EReal :=
  open Cert.ReferenceIdeal Cert.ReferenceIdeal.Gen in
  Host.reduceWindow (FloatOps.maximumf (F := Ideal) (φ := .f32)) ![1, 1, 2, 2] ![1, 1, 2, 2] ![0, 0, 0, 0] ![0, 0, 0, 0] x
    (broadcastInDim S_ ![] bcast_S_S_ (constant (F := Ideal) S_ .f32 0xFF800000#32))
    reduceWindows_S32x64x224x224_S32x64x112x112_w1s1p0_0_w1s1p0_0_w2s2p0_0_w2s2p0_0 h_S_

/-- The two results agree everywhere, at every argument. -/
theorem values_agree (d : Dev nD) (x : S32x64x224x224.Idx → EReal) (hx : x = m ((d : Thread nD τ).loc main_arg0)) :
    refValue x = kernelValue m d := by
  have key : ∀ (n : Fin 32) (c : Fin 64) (h w : Fin 112), refValue x (ix4 n c h w) = kernelValue m d (ix4 n c h w) := fun n c h w =>
    (window_apply x _ (fun _ => start_word) _ _ n c h w).trans (kernelValue_apply m d n c h w x hx).symm
  funext j
  have e : j = ix4 (j 0) (j 1) (j 2) (j 3) := eq_ix4 j
  exact (congrArg (refValue x) e).trans ((key (j 0) (j 1) (j 2) (j 3)).trans (congrArg (kernelValue m d) e.symm))

end Cert.Pool

end
-- ==== Proof.lean ====
/- The certificate's five claims: every run of the kernel, of its ideal form and of the reference ends with the argument
   unchanged and every semaphore at zero; the ideal form is the kernel with nothing rewritten; and at the extended reals the
   kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel as printed: every run ends, the argument unchanged, the semaphores at zero. -/
theorem kernel_frame : Cert.quiescent_Kernel := fun m g _ => Cert.Kernel.Gen.frame m g

/-- The same of the kernel's ideal form. -/
theorem ideal_frame : Cert.quiescent_KernelIdeal := fun m g _ => Cert.KernelIdeal.Gen.frame m g

/-- The same of the reference, which has no semaphore. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The ideal form rewrites nothing. -/
theorem preserved : Cert.preserves_Kernel_KernelIdeal := trivial

/-- At the extended reals, from the same argument, the kernel and the reference end with the same result: the maximum of every
    2 × 2 square. -/
theorem same_result : Cert.algebraic_KernelIdeal_ReferenceIdeal := by
  intro m g m' g' _ hagree
  refine ⟨fun c => Cert.Pool.kernelValue m c, Cert.Pool.kernel_run m g, ?_⟩
  exact (θ_run Cert.ReferenceIdeal.defs _ _).mono
    (fun _ h c => ⟨(h c).1.trans (Cert.Pool.values_agree m c _ (hagree c)), (h c).2⟩)
    (Cert.ReferenceIdeal.Value.run (F := Ideal) m' g')

/-- All five claims. -/
theorem claim : Cert.Claim :=
  ⟨Cert.Kernel.Gen.facts, Cert.KernelIdeal.Gen.facts, Cert.ReferenceIdeal.Gen.facts,
    kernel_frame, ideal_frame, reference_frame, preserved, same_result⟩

end Cert.Proof

end
